-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v348) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x1536x1536 : Shape := ⟨4, ![4, 1, 1536, 1536]⟩
abbrev S4x3x1536x1536 : Shape := ⟨4, ![4, 3, 1536, 1536]⟩
abbrev S4x2x1536x1536 : Shape := ⟨4, ![4, 2, 1536, 1536]⟩
abbrev S6x6 : Shape := ⟨2, ![6, 6]⟩
abbrev S1x6x1x6 : Shape := ⟨4, ![1, 6, 1, 6]⟩
abbrev S32x6x256x6 : Shape := ⟨4, ![32, 6, 256, 6]⟩
abbrev S192x1536 : Shape := ⟨2, ![192, 1536]⟩
abbrev S1x1x192x1536 : Shape := ⟨4, ![1, 1, 192, 1536]⟩
abbrev S1x2x192x1536 : Shape := ⟨4, ![1, 2, 192, 1536]⟩
abbrev S1x3x192x1536 : Shape := ⟨4, ![1, 3, 192, 1536]⟩

abbrev nBuf : Space → Nat
  | .hbm => 12
  | .vmem => 12
  | .smem => 0
  | _ => 0

abbrev bufTy : (tb : Table) → Fin (tcTables nBuf tb) → BufTy
  | .hbm, ⟨0, _⟩ => ⟨S4x1x1536x1536, .f32⟩
  | .hbm, ⟨1, _⟩ => ⟨S4x3x1536x1536, .f32⟩
  | .hbm, ⟨2, _⟩ => ⟨S4x2x1536x1536, .f32⟩
  | .hbm, ⟨3, _⟩ => ⟨S6x6, .i32⟩
  | .hbm, ⟨4, _⟩ => ⟨S6x6, .i32⟩
  | .hbm, ⟨5, _⟩ => ⟨S1x6x1x6, .i32⟩
  | .hbm, ⟨6, _⟩ => ⟨S32x6x256x6, .i32⟩
  | .hbm, ⟨7, _⟩ => ⟨S192x1536, .i32⟩
  | .hbm, ⟨8, _⟩ => ⟨S1x6x1x6, .i32⟩
  | .hbm, ⟨9, _⟩ => ⟨S32x6x256x6, .i32⟩
  | .hbm, ⟨10, _⟩ => ⟨S192x1536, .i32⟩
  | .hbm, ⟨11, _⟩ => ⟨S4x3x1536x1536, .f32⟩
  | .local _ .vmem, ⟨0, _⟩ => ⟨S1x1x192x1536, .f32⟩
  | .local _ .vmem, ⟨1, _⟩ => ⟨S1x1x192x1536, .f32⟩
  | .local _ .vmem, ⟨2, _⟩ => ⟨S1x1x192x1536, .f32⟩
  | .local _ .vmem, ⟨3, _⟩ => ⟨S1x1x192x1536, .f32⟩
  | .local _ .vmem, ⟨4, _⟩ => ⟨S1x1x192x1536, .f32⟩
  | .local _ .vmem, ⟨5, _⟩ => ⟨S1x1x192x1536, .f32⟩
  | .local _ .vmem, ⟨6, _⟩ => ⟨S1x2x192x1536, .f32⟩
  | .local _ .vmem, ⟨7, _⟩ => ⟨S1x2x192x1536, .f32⟩
  | .local _ .vmem, ⟨8, _⟩ => ⟨S192x1536, .i32⟩
  | .local _ .vmem, ⟨9, _⟩ => ⟨S192x1536, .i32⟩
  | .local _ .vmem, ⟨10, _⟩ => ⟨S1x3x192x1536, .f32⟩
  | .local _ .vmem, ⟨11, _⟩ => ⟨S1x3x192x1536, .f32⟩
  | _, _ => ⟨S4x1x1536x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1x192x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x192x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x192x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x192x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S192x1536 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S192x1536 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x3x192x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x1x1536x1536 : Shape := ⟨4, ![4, 1, 1536, 1536]⟩
abbrev S4x3x1536x1536 : Shape := ⟨4, ![4, 3, 1536, 1536]⟩
abbrev S4x2x1536x1536 : Shape := ⟨4, ![4, 2, 1536, 1536]⟩
abbrev S4x1536x1536 : Shape := ⟨3, ![4, 1536, 1536]⟩
abbrev S4x256x6x256x6 : Shape := ⟨5, ![4, 256, 6, 256, 6]⟩
abbrev S4x1x256x256 : Shape := ⟨4, ![4, 1, 256, 256]⟩
abbrev S4x256x256 : Shape := ⟨3, ![4, 256, 256]⟩
abbrev S_ : Shape := ⟨0, ![]⟩
abbrev S1 : Shape := ⟨1, ![1]⟩
abbrev S2 : Shape := ⟨1, ![2]⟩

abbrev nBuf : Space → Nat
  | .hbm => 464
  | .vmem => 0
  | .smem => 0
  | _ => 0

abbrev hbmTy0_0 (i : Nat) : BufTy := match i % 128 with
  | 0 => ⟨S4x1x1536x1536, .f32⟩
  | 1 => ⟨S4x3x1536x1536, .f32⟩
  | 2 => ⟨S4x2x1536x1536, .f32⟩
  | 3 => ⟨S4x1536x1536, .f32⟩
  | 4 => ⟨S4x1x1536x1536, .f32⟩
  | 5 => ⟨S4x1536x1536, .f32⟩
  | 6 => ⟨S4x256x6x256x6, .f32⟩
  | 7 => ⟨S4x1x1536x1536, .f32⟩
  | 8 => ⟨S4x1536x1536, .f32⟩
  | 9 => ⟨S4x256x6x256x6, .f32⟩
  | 10 => ⟨S4x1x256x256, .f32⟩
  | 11 => ⟨S4x256x256, .f32⟩
  | 12 => ⟨S_, .i32⟩
  | 13 => ⟨S1, .i32⟩
  | 14 => ⟨S_, .i32⟩
  | 15 => ⟨S1, .i32⟩
  | 16 => ⟨S2, .i32⟩
  | 17 => ⟨S4x256x6x256x6, .f32⟩
  | 18 => ⟨S4x1x256x256, .f32⟩
  | 19 => ⟨S4x256x256, .f32⟩
  | 20 => ⟨S_, .i32⟩
  | 21 => ⟨S1, .i32⟩
  | 22 => ⟨S_, .i32⟩
  | 23 => ⟨S1, .i32⟩
  | 24 => ⟨S2, .i32⟩
  | 25 => ⟨S4x256x6x256x6, .f32⟩
  | 26 => ⟨S4x1x256x256, .f32⟩
  | 27 => ⟨S4x256x256, .f32⟩
  | 28 => ⟨S_, .i32⟩
  | 29 => ⟨S1, .i32⟩
  | 30 => ⟨S_, .i32⟩
  | 31 => ⟨S1, .i32⟩
  | 32 => ⟨S2, .i32⟩
  | 33 => ⟨S4x256x6x256x6, .f32⟩
  | 34 => ⟨S4x1x256x256, .f32⟩
  | 35 => ⟨S4x256x256, .f32⟩
  | 36 => ⟨S_, .i32⟩
  | 37 => ⟨S1, .i32⟩
  | 38 => ⟨S_, .i32⟩
  | 39 => ⟨S1, .i32⟩
  | 40 => ⟨S2, .i32⟩
  | 41 => ⟨S4x256x6x256x6, .f32⟩
  | 42 => ⟨S4x1x256x256, .f32⟩
  | 43 => ⟨S4x256x256, .f32⟩
  | 44 => ⟨S_, .i32⟩
  | 45 => ⟨S1, .i32⟩
  | 46 => ⟨S_, .i32⟩
  | 47 => ⟨S1, .i32⟩
  | 48 => ⟨S2, .i32⟩
  | 49 => ⟨S4x256x6x256x6, .f32⟩
  | 50 => ⟨S4x1x256x256, .f32⟩
  | 51 => ⟨S4x256x256, .f32⟩
  | 52 => ⟨S_, .i32⟩
  | 53 => ⟨S1, .i32⟩
  | 54 => ⟨S_, .i32⟩
  | 55 => ⟨S1, .i32⟩
  | 56 => ⟨S2, .i32⟩
  | 57 => ⟨S4x256x6x256x6, .f32⟩
  | 58 => ⟨S4x1x256x256, .f32⟩
  | 59 => ⟨S4x256x256, .f32⟩
  | 60 => ⟨S_, .i32⟩
  | 61 => ⟨S1, .i32⟩
  | 62 => ⟨S_, .i32⟩
  | 63 => ⟨S1, .i32⟩
  | 64 => ⟨S2, .i32⟩
  | 65 => ⟨S4x256x6x256x6, .f32⟩
  | 66 => ⟨S4x1x256x256, .f32⟩
  | 67 => ⟨S4x256x256, .f32⟩
  | 68 => ⟨S_, .i32⟩
  | 69 => ⟨S1, .i32⟩
  | 70 => ⟨S_, .i32⟩
  | 71 => ⟨S1, .i32⟩
  | 72 => ⟨S2, .i32⟩
  | 73 => ⟨S4x256x6x256x6, .f32⟩
  | 74 => ⟨S4x1x256x256, .f32⟩
  | 75 => ⟨S4x256x256, .f32⟩
  | 76 => ⟨S_, .i32⟩
  | 77 => ⟨S1, .i32⟩
  | 78 => ⟨S_, .i32⟩
  | 79 => ⟨S1, .i32⟩
  | 80 => ⟨S2, .i32⟩
  | 81 => ⟨S4x256x6x256x6, .f32⟩
  | 82 => ⟨S4x1x256x256, .f32⟩
  | 83 => ⟨S4x256x256, .f32⟩
  | 84 => ⟨S_, .i32⟩
  | 85 => ⟨S1, .i32⟩
  | 86 => ⟨S_, .i32⟩
  | 87 => ⟨S1, .i32⟩
  | 88 => ⟨S2, .i32⟩
  | 89 => ⟨S4x256x6x256x6, .f32⟩
  | 90 => ⟨S4x1x256x256, .f32⟩
  | 91 => ⟨S4x256x256, .f32⟩
  | 92 => ⟨S_, .i32⟩
  | 93 => ⟨S1, .i32⟩
  | 94 => ⟨S_, .i32⟩
  | 95 => ⟨S1, .i32⟩
  | 96 => ⟨S2, .i32⟩
  | 97 => ⟨S4x256x6x256x6, .f32⟩
  | 98 => ⟨S4x1x256x256, .f32⟩
  | 99 => ⟨S4x256x256, .f32⟩
  | 100 => ⟨S_, .i32⟩
  | 101 => ⟨S1, .i32⟩
  | 102 => ⟨S_, .i32⟩
  | 103 => ⟨S1, .i32⟩
  | 104 => ⟨S2, .i32⟩
  | 105 => ⟨S4x256x6x256x6, .f32⟩
  | 106 => ⟨S4x1x256x256, .f32⟩
  | 107 => ⟨S4x256x256, .f32⟩
  | 108 => ⟨S_, .i32⟩
  | 109 => ⟨S1, .i32⟩
  | 110 => ⟨S_, .i32⟩
  | 111 => ⟨S1, .i32⟩
  | 112 => ⟨S2, .i32⟩
  | 113 => ⟨S4x256x6x256x6, .f32⟩
  | 114 => ⟨S4x1x256x256, .f32⟩
  | 115 => ⟨S4x256x256, .f32⟩
  | 116 => ⟨S_, .i32⟩
  | 117 => ⟨S1, .i32⟩
  | 118 => ⟨S_, .i32⟩
  | 119 => ⟨S1, .i32⟩
  | 120 => ⟨S2, .i32⟩
  | 121 => ⟨S4x256x6x256x6, .f32⟩
  | 122 => ⟨S4x1x256x256, .f32⟩
  | 123 => ⟨S4x256x256, .f32⟩
  | 124 => ⟨S_, .i32⟩
  | 125 => ⟨S1, .i32⟩
  | 126 => ⟨S_, .i32⟩
  | 127 => ⟨S1, .i32⟩
  | _ => ⟨S4x1x1536x1536, .f32⟩

abbrev hbmTy0_1 (i : Nat) : BufTy := match i % 128 with
  | 0 => ⟨S2, .i32⟩
  | 1 => ⟨S4x256x6x256x6, .f32⟩
  | 2 => ⟨S4x1x256x256, .f32⟩
  | 3 => ⟨S4x256x256, .f32⟩
  | 4 => ⟨S_, .i32⟩
  | 5 => ⟨S1, .i32⟩
  | 6 => ⟨S_, .i32⟩
  | 7 => ⟨S1, .i32⟩
  | 8 => ⟨S2, .i32⟩
  | 9 => ⟨S4x256x6x256x6, .f32⟩
  | 10 => ⟨S4x1x256x256, .f32⟩
  | 11 => ⟨S4x256x256, .f32⟩
  | 12 => ⟨S_, .i32⟩
  | 13 => ⟨S1, .i32⟩
  | 14 => ⟨S_, .i32⟩
  | 15 => ⟨S1, .i32⟩
  | 16 => ⟨S2, .i32⟩
  | 17 => ⟨S4x256x6x256x6, .f32⟩
  | 18 => ⟨S4x1x256x256, .f32⟩
  | 19 => ⟨S4x256x256, .f32⟩
  | 20 => ⟨S_, .i32⟩
  | 21 => ⟨S1, .i32⟩
  | 22 => ⟨S_, .i32⟩
  | 23 => ⟨S1, .i32⟩
  | 24 => ⟨S2, .i32⟩
  | 25 => ⟨S4x256x6x256x6, .f32⟩
  | 26 => ⟨S4x1x256x256, .f32⟩
  | 27 => ⟨S4x256x256, .f32⟩
  | 28 => ⟨S_, .i32⟩
  | 29 => ⟨S1, .i32⟩
  | 30 => ⟨S_, .i32⟩
  | 31 => ⟨S1, .i32⟩
  | 32 => ⟨S2, .i32⟩
  | 33 => ⟨S4x256x6x256x6, .f32⟩
  | 34 => ⟨S4x1x256x256, .f32⟩
  | 35 => ⟨S4x256x256, .f32⟩
  | 36 => ⟨S_, .i32⟩
  | 37 => ⟨S1, .i32⟩
  | 38 => ⟨S_, .i32⟩
  | 39 => ⟨S1, .i32⟩
  | 40 => ⟨S2, .i32⟩
  | 41 => ⟨S4x256x6x256x6, .f32⟩
  | 42 => ⟨S4x1x256x256, .f32⟩
  | 43 => ⟨S4x256x256, .f32⟩
  | 44 => ⟨S_, .i32⟩
  | 45 => ⟨S1, .i32⟩
  | 46 => ⟨S_, .i32⟩
  | 47 => ⟨S1, .i32⟩
  | 48 => ⟨S2, .i32⟩
  | 49 => ⟨S4x256x6x256x6, .f32⟩
  | 50 => ⟨S4x1x256x256, .f32⟩
  | 51 => ⟨S4x256x256, .f32⟩
  | 52 => ⟨S_, .i32⟩
  | 53 => ⟨S1, .i32⟩
  | 54 => ⟨S_, .i32⟩
  | 55 => ⟨S1, .i32⟩
  | 56 => ⟨S2, .i32⟩
  | 57 => ⟨S4x256x6x256x6, .f32⟩
  | 58 => ⟨S4x1x256x256, .f32⟩
  | 59 => ⟨S4x256x256, .f32⟩
  | 60 => ⟨S_, .i32⟩
  | 61 => ⟨S1, .i32⟩
  | 62 => ⟨S_, .i32⟩
  | 63 => ⟨S1, .i32⟩
  | 64 => ⟨S2, .i32⟩
  | 65 => ⟨S4x256x6x256x6, .f32⟩
  | 66 => ⟨S4x1x256x256, .f32⟩
  | 67 => ⟨S4x256x256, .f32⟩
  | 68 => ⟨S_, .i32⟩
  | 69 => ⟨S1, .i32⟩
  | 70 => ⟨S_, .i32⟩
  | 71 => ⟨S1, .i32⟩
  | 72 => ⟨S2, .i32⟩
  | 73 => ⟨S4x256x6x256x6, .f32⟩
  | 74 => ⟨S4x1x256x256, .f32⟩
  | 75 => ⟨S4x256x256, .f32⟩
  | 76 => ⟨S_, .i32⟩
  | 77 => ⟨S1, .i32⟩
  | 78 => ⟨S_, .i32⟩
  | 79 => ⟨S1, .i32⟩
  | 80 => ⟨S2, .i32⟩
  | 81 => ⟨S4x256x6x256x6, .f32⟩
  | 82 => ⟨S4x1x256x256, .f32⟩
  | 83 => ⟨S4x256x256, .f32⟩
  | 84 => ⟨S_, .i32⟩
  | 85 => ⟨S1, .i32⟩
  | 86 => ⟨S_, .i32⟩
  | 87 => ⟨S1, .i32⟩
  | 88 => ⟨S2, .i32⟩
  | 89 => ⟨S4x256x6x256x6, .f32⟩
  | 90 => ⟨S4x1x256x256, .f32⟩
  | 91 => ⟨S4x256x256, .f32⟩
  | 92 => ⟨S_, .i32⟩
  | 93 => ⟨S1, .i32⟩
  | 94 => ⟨S_, .i32⟩
  | 95 => ⟨S1, .i32⟩
  | 96 => ⟨S2, .i32⟩
  | 97 => ⟨S4x256x6x256x6, .f32⟩
  | 98 => ⟨S4x1x256x256, .f32⟩
  | 99 => ⟨S4x256x256, .f32⟩
  | 100 => ⟨S_, .i32⟩
  | 101 => ⟨S1, .i32⟩
  | 102 => ⟨S_, .i32⟩
  | 103 => ⟨S1, .i32⟩
  | 104 => ⟨S2, .i32⟩
  | 105 => ⟨S4x256x6x256x6, .f32⟩
  | 106 => ⟨S4x1x256x256, .f32⟩
  | 107 => ⟨S4x256x256, .f32⟩
  | 108 => ⟨S_, .i32⟩
  | 109 => ⟨S1, .i32⟩
  | 110 => ⟨S_, .i32⟩
  | 111 => ⟨S1, .i32⟩
  | 112 => ⟨S2, .i32⟩
  | 113 => ⟨S4x256x6x256x6, .f32⟩
  | 114 => ⟨S4x1x256x256, .f32⟩
  | 115 => ⟨S4x256x256, .f32⟩
  | 116 => ⟨S_, .i32⟩
  | 117 => ⟨S1, .i32⟩
  | 118 => ⟨S_, .i32⟩
  | 119 => ⟨S1, .i32⟩
  | 120 => ⟨S2, .i32⟩
  | 121 => ⟨S4x256x6x256x6, .f32⟩
  | 122 => ⟨S4x1x256x256, .f32⟩
  | 123 => ⟨S4x256x256, .f32⟩
  | 124 => ⟨S_, .i32⟩
  | 125 => ⟨S1, .i32⟩
  | 126 => ⟨S_, .i32⟩
  | 127 => ⟨S1, .i32⟩
  | _ => ⟨S4x1x1536x1536, .f32⟩

abbrev hbmTy0_2 (i : Nat) : BufTy := match i % 128 with
  | 0 => ⟨S2, .i32⟩
  | 1 => ⟨S4x256x6x256x6, .f32⟩
  | 2 => ⟨S4x1x256x256, .f32⟩
  | 3 => ⟨S4x256x256, .f32⟩
  | 4 => ⟨S_, .i32⟩
  | 5 => ⟨S1, .i32⟩
  | 6 => ⟨S_, .i32⟩
  | 7 => ⟨S1, .i32⟩
  | 8 => ⟨S2, .i32⟩
  | 9 => ⟨S4x256x6x256x6, .f32⟩
  | 10 => ⟨S4x1x256x256, .f32⟩
  | 11 => ⟨S4x256x256, .f32⟩
  | 12 => ⟨S_, .i32⟩
  | 13 => ⟨S1, .i32⟩
  | 14 => ⟨S_, .i32⟩
  | 15 => ⟨S1, .i32⟩
  | 16 => ⟨S2, .i32⟩
  | 17 => ⟨S4x256x6x256x6, .f32⟩
  | 18 => ⟨S4x1x256x256, .f32⟩
  | 19 => ⟨S4x256x256, .f32⟩
  | 20 => ⟨S_, .i32⟩
  | 21 => ⟨S1, .i32⟩
  | 22 => ⟨S_, .i32⟩
  | 23 => ⟨S1, .i32⟩
  | 24 => ⟨S2, .i32⟩
  | 25 => ⟨S4x256x6x256x6, .f32⟩
  | 26 => ⟨S4x1x256x256, .f32⟩
  | 27 => ⟨S4x256x256, .f32⟩
  | 28 => ⟨S_, .i32⟩
  | 29 => ⟨S1, .i32⟩
  | 30 => ⟨S_, .i32⟩
  | 31 => ⟨S1, .i32⟩
  | 32 => ⟨S2, .i32⟩
  | 33 => ⟨S4x256x6x256x6, .f32⟩
  | 34 => ⟨S4x1x256x256, .f32⟩
  | 35 => ⟨S4x256x256, .f32⟩
  | 36 => ⟨S_, .i32⟩
  | 37 => ⟨S1, .i32⟩
  | 38 => ⟨S_, .i32⟩
  | 39 => ⟨S1, .i32⟩
  | 40 => ⟨S2, .i32⟩
  | 41 => ⟨S4x256x6x256x6, .f32⟩
  | 42 => ⟨S4x1x256x256, .f32⟩
  | 43 => ⟨S4x256x256, .f32⟩
  | 44 => ⟨S_, .i32⟩
  | 45 => ⟨S1, .i32⟩
  | 46 => ⟨S_, .i32⟩
  | 47 => ⟨S1, .i32⟩
  | 48 => ⟨S2, .i32⟩
  | 49 => ⟨S4x256x6x256x6, .f32⟩
  | 50 => ⟨S4x1x256x256, .f32⟩
  | 51 => ⟨S4x256x256, .f32⟩
  | 52 => ⟨S_, .i32⟩
  | 53 => ⟨S1, .i32⟩
  | 54 => ⟨S_, .i32⟩
  | 55 => ⟨S1, .i32⟩
  | 56 => ⟨S2, .i32⟩
  | 57 => ⟨S4x256x6x256x6, .f32⟩
  | 58 => ⟨S4x1x256x256, .f32⟩
  | 59 => ⟨S4x256x256, .f32⟩
  | 60 => ⟨S_, .i32⟩
  | 61 => ⟨S1, .i32⟩
  | 62 => ⟨S_, .i32⟩
  | 63 => ⟨S1, .i32⟩
  | 64 => ⟨S2, .i32⟩
  | 65 => ⟨S4x256x6x256x6, .f32⟩
  | 66 => ⟨S4x1x256x256, .f32⟩
  | 67 => ⟨S4x256x256, .f32⟩
  | 68 => ⟨S_, .i32⟩
  | 69 => ⟨S1, .i32⟩
  | 70 => ⟨S_, .i32⟩
  | 71 => ⟨S1, .i32⟩
  | 72 => ⟨S2, .i32⟩
  | 73 => ⟨S4x256x6x256x6, .f32⟩
  | 74 => ⟨S4x1x256x256, .f32⟩
  | 75 => ⟨S4x256x256, .f32⟩
  | 76 => ⟨S_, .i32⟩
  | 77 => ⟨S1, .i32⟩
  | 78 => ⟨S_, .i32⟩
  | 79 => ⟨S1, .i32⟩
  | 80 => ⟨S2, .i32⟩
  | 81 => ⟨S4x256x6x256x6, .f32⟩
  | 82 => ⟨S4x1x256x256, .f32⟩
  | 83 => ⟨S4x256x256, .f32⟩
  | 84 => ⟨S_, .i32⟩
  | 85 => ⟨S1, .i32⟩
  | 86 => ⟨S_, .i32⟩
  | 87 => ⟨S1, .i32⟩
  | 88 => ⟨S2, .i32⟩
  | 89 => ⟨S4x256x6x256x6, .f32⟩
  | 90 => ⟨S4x1x256x256, .f32⟩
  | 91 => ⟨S4x256x256, .f32⟩
  | 92 => ⟨S_, .i32⟩
  | 93 => ⟨S1, .i32⟩
  | 94 => ⟨S_, .i32⟩
  | 95 => ⟨S1, .i32⟩
  | 96 => ⟨S2, .i32⟩
  | 97 => ⟨S4x256x6x256x6, .f32⟩
  | 98 => ⟨S4x1x256x256, .f32⟩
  | 99 => ⟨S4x256x256, .f32⟩
  | 100 => ⟨S_, .i32⟩
  | 101 => ⟨S1, .i32⟩
  | 102 => ⟨S_, .i32⟩
  | 103 => ⟨S1, .i32⟩
  | 104 => ⟨S2, .i32⟩
  | 105 => ⟨S4x256x6x256x6, .f32⟩
  | 106 => ⟨S4x1x256x256, .f32⟩
  | 107 => ⟨S4x256x256, .f32⟩
  | 108 => ⟨S_, .i32⟩
  | 109 => ⟨S1, .i32⟩
  | 110 => ⟨S_, .i32⟩
  | 111 => ⟨S1, .i32⟩
  | 112 => ⟨S2, .i32⟩
  | 113 => ⟨S4x256x6x256x6, .f32⟩
  | 114 => ⟨S4x1x256x256, .f32⟩
  | 115 => ⟨S4x256x256, .f32⟩
  | 116 => ⟨S_, .i32⟩
  | 117 => ⟨S1, .i32⟩
  | 118 => ⟨S_, .i32⟩
  | 119 => ⟨S1, .i32⟩
  | 120 => ⟨S2, .i32⟩
  | 121 => ⟨S4x256x6x256x6, .f32⟩
  | 122 => ⟨S4x1x256x256, .f32⟩
  | 123 => ⟨S4x256x256, .f32⟩
  | 124 => ⟨S_, .i32⟩
  | 125 => ⟨S1, .i32⟩
  | 126 => ⟨S_, .i32⟩
  | 127 => ⟨S1, .i32⟩
  | _ => ⟨S4x1x1536x1536, .f32⟩

abbrev hbmTy0_3 (i : Nat) : BufTy := match i % 128 with
  | 0 => ⟨S2, .i32⟩
  | 1 => ⟨S4x256x6x256x6, .f32⟩
  | 2 => ⟨S4x1x256x256, .f32⟩
  | 3 => ⟨S4x256x256, .f32⟩
  | 4 => ⟨S_, .i32⟩
  | 5 => ⟨S1, .i32⟩
  | 6 => ⟨S_, .i32⟩
  | 7 => ⟨S1, .i32⟩
  | 8 => ⟨S2, .i32⟩
  | 9 => ⟨S4x256x6x256x6, .f32⟩
  | 10 => ⟨S4x1x256x256, .f32⟩
  | 11 => ⟨S4x256x256, .f32⟩
  | 12 => ⟨S_, .i32⟩
  | 13 => ⟨S1, .i32⟩
  | 14 => ⟨S_, .i32⟩
  | 15 => ⟨S1, .i32⟩
  | 16 => ⟨S2, .i32⟩
  | 17 => ⟨S4x256x6x256x6, .f32⟩
  | 18 => ⟨S4x1x256x256, .f32⟩
  | 19 => ⟨S4x256x256, .f32⟩
  | 20 => ⟨S_, .i32⟩
  | 21 => ⟨S1, .i32⟩
  | 22 => ⟨S_, .i32⟩
  | 23 => ⟨S1, .i32⟩
  | 24 => ⟨S2, .i32⟩
  | 25 => ⟨S4x256x6x256x6, .f32⟩
  | 26 => ⟨S4x1x256x256, .f32⟩
  | 27 => ⟨S4x256x256, .f32⟩
  | 28 => ⟨S_, .i32⟩
  | 29 => ⟨S1, .i32⟩
  | 30 => ⟨S_, .i32⟩
  | 31 => ⟨S1, .i32⟩
  | 32 => ⟨S2, .i32⟩
  | 33 => ⟨S4x256x6x256x6, .f32⟩
  | 34 => ⟨S4x1x256x256, .f32⟩
  | 35 => ⟨S4x256x256, .f32⟩
  | 36 => ⟨S_, .i32⟩
  | 37 => ⟨S1, .i32⟩
  | 38 => ⟨S_, .i32⟩
  | 39 => ⟨S1, .i32⟩
  | 40 => ⟨S2, .i32⟩
  | 41 => ⟨S4x256x6x256x6, .f32⟩
  | 42 => ⟨S4x1x256x256, .f32⟩
  | 43 => ⟨S4x256x256, .f32⟩
  | 44 => ⟨S_, .i32⟩
  | 45 => ⟨S1, .i32⟩
  | 46 => ⟨S_, .i32⟩
  | 47 => ⟨S1, .i32⟩
  | 48 => ⟨S2, .i32⟩
  | 49 => ⟨S4x256x6x256x6, .f32⟩
  | 50 => ⟨S4x1x256x256, .f32⟩
  | 51 => ⟨S4x256x256, .f32⟩
  | 52 => ⟨S_, .i32⟩
  | 53 => ⟨S1, .i32⟩
  | 54 => ⟨S_, .i32⟩
  | 55 => ⟨S1, .i32⟩
  | 56 => ⟨S2, .i32⟩
  | 57 => ⟨S4x256x6x256x6, .f32⟩
  | 58 => ⟨S4x1x256x256, .f32⟩
  | 59 => ⟨S4x256x256, .f32⟩
  | 60 => ⟨S_, .i32⟩
  | 61 => ⟨S1, .i32⟩
  | 62 => ⟨S_, .i32⟩
  | 63 => ⟨S1, .i32⟩
  | 64 => ⟨S2, .i32⟩
  | 65 => ⟨S4x256x6x256x6, .f32⟩
  | 66 => ⟨S4x1x256x256, .f32⟩
  | 67 => ⟨S4x256x256, .f32⟩
  | 68 => ⟨S_, .i32⟩
  | 69 => ⟨S1, .i32⟩
  | 70 => ⟨S_, .i32⟩
  | 71 => ⟨S1, .i32⟩
  | 72 => ⟨S2, .i32⟩
  | 73 => ⟨S4x256x6x256x6, .f32⟩
  | 74 => ⟨S4x1536x1536, .f32⟩
  | 75 => ⟨S4x1536x1536, .f32⟩
  | 76 => ⟨S4x1x1536x1536, .f32⟩
  | 77 => ⟨S4x1x1536x1536, .f32⟩
  | 78 => ⟨S4x1x1536x1536, .f32⟩
  | 79 => ⟨S4x3x1536x1536, .f32⟩
  | _ => ⟨S4x1x1536x1536, .f32⟩

abbrev hbmTy (i : Nat) : BufTy := match i / 128 with
  | 0 => hbmTy0_0 i
  | 1 => hbmTy0_1 i
  | 2 => hbmTy0_2 i
  | 3 => hbmTy0_3 i
  | _ => ⟨S4x1x1536x1536, .f32⟩

abbrev bufTy : (tb : Table) → Fin (tcTables nBuf tb) → BufTy
  | .hbm, ⟨i, _⟩ => hbmTy i
  | _, _ => ⟨S4x1x1536x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_c_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_7 : Ref sig .tc := ⟨.hbm, 44, rfl⟩
abbrev main_v33 : Ref sig .tc := ⟨.hbm, 45, rfl⟩
abbrev main_c_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_9 : Ref sig .tc := ⟨.hbm, 52, rfl⟩
abbrev main_v39 : Ref sig .tc := ⟨.hbm, 53, rfl⟩
abbrev main_c_10 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_11 : Ref sig .tc := ⟨.hbm, 60, rfl⟩
abbrev main_v45 : Ref sig .tc := ⟨.hbm, 61, rfl⟩
abbrev main_c_12 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_13 : Ref sig .tc := ⟨.hbm, 68, rfl⟩
abbrev main_v51 : Ref sig .tc := ⟨.hbm, 69, rfl⟩
abbrev main_c_14 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_15 : Ref sig .tc := ⟨.hbm, 76, rfl⟩
abbrev main_v57 : Ref sig .tc := ⟨.hbm, 77, rfl⟩
abbrev main_c_16 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_17 : Ref sig .tc := ⟨.hbm, 84, rfl⟩
abbrev main_v63 : Ref sig .tc := ⟨.hbm, 85, rfl⟩
abbrev main_c_18 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_19 : Ref sig .tc := ⟨.hbm, 92, rfl⟩
abbrev main_v69 : Ref sig .tc := ⟨.hbm, 93, rfl⟩
abbrev main_c_20 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_21 : Ref sig .tc := ⟨.hbm, 100, rfl⟩
abbrev main_v75 : Ref sig .tc := ⟨.hbm, 101, rfl⟩
abbrev main_c_22 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_23 : Ref sig .tc := ⟨.hbm, 108, rfl⟩
abbrev main_v81 : Ref sig .tc := ⟨.hbm, 109, rfl⟩
abbrev main_c_24 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_25 : Ref sig .tc := ⟨.hbm, 116, rfl⟩
abbrev main_v87 : Ref sig .tc := ⟨.hbm, 117, rfl⟩
abbrev main_c_26 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_27 : Ref sig .tc := ⟨.hbm, 124, rfl⟩
abbrev main_v93 : Ref sig .tc := ⟨.hbm, 125, rfl⟩
abbrev main_c_28 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_29 : Ref sig .tc := ⟨.hbm, 132, rfl⟩
abbrev main_v99 : Ref sig .tc := ⟨.hbm, 133, rfl⟩
abbrev main_c_30 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_c_31 : Ref sig .tc := ⟨.hbm, 140, rfl⟩
abbrev main_v105 : Ref sig .tc := ⟨.hbm, 141, rfl⟩
abbrev main_c_32 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_c_33 : Ref sig .tc := ⟨.hbm, 148, rfl⟩
abbrev main_v111 : Ref sig .tc := ⟨.hbm, 149, rfl⟩
abbrev main_c_34 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_c_35 : Ref sig .tc := ⟨.hbm, 156, rfl⟩
abbrev main_v117 : Ref sig .tc := ⟨.hbm, 157, rfl⟩
abbrev main_c_36 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_c_37 : Ref sig .tc := ⟨.hbm, 164, rfl⟩
abbrev main_v123 : Ref sig .tc := ⟨.hbm, 165, rfl⟩
abbrev main_c_38 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_c_39 : Ref sig .tc := ⟨.hbm, 172, rfl⟩
abbrev main_v129 : Ref sig .tc := ⟨.hbm, 173, rfl⟩
abbrev main_c_40 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_c_41 : Ref sig .tc := ⟨.hbm, 180, rfl⟩
abbrev main_v135 : Ref sig .tc := ⟨.hbm, 181, rfl⟩
abbrev main_c_42 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_c_43 : Ref sig .tc := ⟨.hbm, 188, rfl⟩
abbrev main_v141 : Ref sig .tc := ⟨.hbm, 189, rfl⟩
abbrev main_c_44 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_c_45 : Ref sig .tc := ⟨.hbm, 196, rfl⟩
abbrev main_v147 : Ref sig .tc := ⟨.hbm, 197, rfl⟩
abbrev main_c_46 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_c_47 : Ref sig .tc := ⟨.hbm, 204, rfl⟩
abbrev main_v153 : Ref sig .tc := ⟨.hbm, 205, rfl⟩
abbrev main_c_48 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_c_49 : Ref sig .tc := ⟨.hbm, 212, rfl⟩
abbrev main_v159 : Ref sig .tc := ⟨.hbm, 213, rfl⟩
abbrev main_c_50 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_c_51 : Ref sig .tc := ⟨.hbm, 220, rfl⟩
abbrev main_v165 : Ref sig .tc := ⟨.hbm, 221, rfl⟩
abbrev main_c_52 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_c_53 : Ref sig .tc := ⟨.hbm, 228, rfl⟩
abbrev main_v171 : Ref sig .tc := ⟨.hbm, 229, rfl⟩
abbrev main_c_54 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_c_55 : Ref sig .tc := ⟨.hbm, 236, rfl⟩
abbrev main_v177 : Ref sig .tc := ⟨.hbm, 237, rfl⟩
abbrev main_c_56 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_c_57 : Ref sig .tc := ⟨.hbm, 244, rfl⟩
abbrev main_v183 : Ref sig .tc := ⟨.hbm, 245, rfl⟩
abbrev main_c_58 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_c_59 : Ref sig .tc := ⟨.hbm, 252, rfl⟩
abbrev main_v189 : Ref sig .tc := ⟨.hbm, 253, rfl⟩
abbrev main_c_60 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_c_61 : Ref sig .tc := ⟨.hbm, 260, rfl⟩
abbrev main_v195 : Ref sig .tc := ⟨.hbm, 261, rfl⟩
abbrev main_c_62 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_c_63 : Ref sig .tc := ⟨.hbm, 268, rfl⟩
abbrev main_v201 : Ref sig .tc := ⟨.hbm, 269, rfl⟩
abbrev main_c_64 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_c_65 : Ref sig .tc := ⟨.hbm, 276, rfl⟩
abbrev main_v207 : Ref sig .tc := ⟨.hbm, 277, rfl⟩
abbrev main_c_66 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_c_67 : Ref sig .tc := ⟨.hbm, 284, rfl⟩
abbrev main_v213 : Ref sig .tc := ⟨.hbm, 285, rfl⟩
abbrev main_c_68 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_c_69 : Ref sig .tc := ⟨.hbm, 292, rfl⟩
abbrev main_v219 : Ref sig .tc := ⟨.hbm, 293, rfl⟩
abbrev main_c_70 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_c_71 : Ref sig .tc := ⟨.hbm, 300, rfl⟩
abbrev main_v225 : Ref sig .tc := ⟨.hbm, 301, rfl⟩
abbrev main_c_72 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_c_73 : Ref sig .tc := ⟨.hbm, 308, rfl⟩
abbrev main_v231 : Ref sig .tc := ⟨.hbm, 309, rfl⟩
abbrev main_c_74 : Ref sig .tc := ⟨.hbm, 310, rfl⟩
abbrev main_v232 : Ref sig .tc := ⟨.hbm, 311, rfl⟩
abbrev main_v233 : Ref sig .tc := ⟨.hbm, 312, rfl⟩
abbrev main_v234 : Ref sig .tc := ⟨.hbm, 313, rfl⟩
abbrev main_v235 : Ref sig .tc := ⟨.hbm, 314, rfl⟩
abbrev main_v236 : Ref sig .tc := ⟨.hbm, 315, rfl⟩
abbrev main_c_75 : Ref sig .tc := ⟨.hbm, 316, rfl⟩
abbrev main_v237 : Ref sig .tc := ⟨.hbm, 317, rfl⟩
abbrev main_c_76 : Ref sig .tc := ⟨.hbm, 318, rfl⟩
abbrev main_v238 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_c_77 : Ref sig .tc := ⟨.hbm, 324, rfl⟩
abbrev main_v243 : Ref sig .tc := ⟨.hbm, 325, rfl⟩
abbrev main_c_78 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_c_79 : Ref sig .tc := ⟨.hbm, 332, rfl⟩
abbrev main_v249 : Ref sig .tc := ⟨.hbm, 333, rfl⟩
abbrev main_c_80 : Ref sig .tc := ⟨.hbm, 334, rfl⟩
abbrev main_v250 : Ref sig .tc := ⟨.hbm, 335, rfl⟩
abbrev main_v251 : Ref sig .tc := ⟨.hbm, 336, rfl⟩
abbrev main_v252 : Ref sig .tc := ⟨.hbm, 337, rfl⟩
abbrev main_v253 : Ref sig .tc := ⟨.hbm, 338, rfl⟩
abbrev main_v254 : Ref sig .tc := ⟨.hbm, 339, rfl⟩
abbrev main_c_81 : Ref sig .tc := ⟨.hbm, 340, rfl⟩
abbrev main_v255 : Ref sig .tc := ⟨.hbm, 341, rfl⟩
abbrev main_c_82 : Ref sig .tc := ⟨.hbm, 342, rfl⟩
abbrev main_v256 : Ref sig .tc := ⟨.hbm, 343, rfl⟩
abbrev main_v257 : Ref sig .tc := ⟨.hbm, 344, rfl⟩
abbrev main_v258 : Ref sig .tc := ⟨.hbm, 345, rfl⟩
abbrev main_v259 : Ref sig .tc := ⟨.hbm, 346, rfl⟩
abbrev main_v260 : Ref sig .tc := ⟨.hbm, 347, rfl⟩
abbrev main_c_83 : Ref sig .tc := ⟨.hbm, 348, rfl⟩
abbrev main_v261 : Ref sig .tc := ⟨.hbm, 349, rfl⟩
abbrev main_c_84 : Ref sig .tc := ⟨.hbm, 350, rfl⟩
abbrev main_v262 : Ref sig .tc := ⟨.hbm, 351, rfl⟩
abbrev main_v263 : Ref sig .tc := ⟨.hbm, 352, rfl⟩
abbrev main_v264 : Ref sig .tc := ⟨.hbm, 353, rfl⟩
abbrev main_v265 : Ref sig .tc := ⟨.hbm, 354, rfl⟩
abbrev main_v266 : Ref sig .tc := ⟨.hbm, 355, rfl⟩
abbrev main_c_85 : Ref sig .tc := ⟨.hbm, 356, rfl⟩
abbrev main_v267 : Ref sig .tc := ⟨.hbm, 357, rfl⟩
abbrev main_c_86 : Ref sig .tc := ⟨.hbm, 358, rfl⟩
abbrev main_v268 : Ref sig .tc := ⟨.hbm, 359, rfl⟩
abbrev main_v269 : Ref sig .tc := ⟨.hbm, 360, rfl⟩
abbrev main_v270 : Ref sig .tc := ⟨.hbm, 361, rfl⟩
abbrev main_v271 : Ref sig .tc := ⟨.hbm, 362, rfl⟩
abbrev main_v272 : Ref sig .tc := ⟨.hbm, 363, rfl⟩
abbrev main_c_87 : Ref sig .tc := ⟨.hbm, 364, rfl⟩
abbrev main_v273 : Ref sig .tc := ⟨.hbm, 365, rfl⟩
abbrev main_c_88 : Ref sig .tc := ⟨.hbm, 366, rfl⟩
abbrev main_v274 : Ref sig .tc := ⟨.hbm, 367, rfl⟩
abbrev main_v275 : Ref sig .tc := ⟨.hbm, 368, rfl⟩
abbrev main_v276 : Ref sig .tc := ⟨.hbm, 369, rfl⟩
abbrev main_v277 : Ref sig .tc := ⟨.hbm, 370, rfl⟩
abbrev main_v278 : Ref sig .tc := ⟨.hbm, 371, rfl⟩
abbrev main_c_89 : Ref sig .tc := ⟨.hbm, 372, rfl⟩
abbrev main_v279 : Ref sig .tc := ⟨.hbm, 373, rfl⟩
abbrev main_c_90 : Ref sig .tc := ⟨.hbm, 374, rfl⟩
abbrev main_v280 : Ref sig .tc := ⟨.hbm, 375, rfl⟩
abbrev main_v281 : Ref sig .tc := ⟨.hbm, 376, rfl⟩
abbrev main_v282 : Ref sig .tc := ⟨.hbm, 377, rfl⟩
abbrev main_v283 : Ref sig .tc := ⟨.hbm, 378, rfl⟩
abbrev main_v284 : Ref sig .tc := ⟨.hbm, 379, rfl⟩
abbrev main_c_91 : Ref sig .tc := ⟨.hbm, 380, rfl⟩
abbrev main_v285 : Ref sig .tc := ⟨.hbm, 381, rfl⟩
abbrev main_c_92 : Ref sig .tc := ⟨.hbm, 382, rfl⟩
abbrev main_v286 : Ref sig .tc := ⟨.hbm, 383, rfl⟩
abbrev main_v287 : Ref sig .tc := ⟨.hbm, 384, rfl⟩
abbrev main_v288 : Ref sig .tc := ⟨.hbm, 385, rfl⟩
abbrev main_v289 : Ref sig .tc := ⟨.hbm, 386, rfl⟩
abbrev main_v290 : Ref sig .tc := ⟨.hbm, 387, rfl⟩
abbrev main_c_93 : Ref sig .tc := ⟨.hbm, 388, rfl⟩
abbrev main_v291 : Ref sig .tc := ⟨.hbm, 389, rfl⟩
abbrev main_c_94 : Ref sig .tc := ⟨.hbm, 390, rfl⟩
abbrev main_v292 : Ref sig .tc := ⟨.hbm, 391, rfl⟩
abbrev main_v293 : Ref sig .tc := ⟨.hbm, 392, rfl⟩
abbrev main_v294 : Ref sig .tc := ⟨.hbm, 393, rfl⟩
abbrev main_v295 : Ref sig .tc := ⟨.hbm, 394, rfl⟩
abbrev main_v296 : Ref sig .tc := ⟨.hbm, 395, rfl⟩
abbrev main_c_95 : Ref sig .tc := ⟨.hbm, 396, rfl⟩
abbrev main_v297 : Ref sig .tc := ⟨.hbm, 397, rfl⟩
abbrev main_c_96 : Ref sig .tc := ⟨.hbm, 398, rfl⟩
abbrev main_v298 : Ref sig .tc := ⟨.hbm, 399, rfl⟩
abbrev main_v299 : Ref sig .tc := ⟨.hbm, 400, rfl⟩
abbrev main_v300 : Ref sig .tc := ⟨.hbm, 401, rfl⟩
abbrev main_v301 : Ref sig .tc := ⟨.hbm, 402, rfl⟩
abbrev main_v302 : Ref sig .tc := ⟨.hbm, 403, rfl⟩
abbrev main_c_97 : Ref sig .tc := ⟨.hbm, 404, rfl⟩
abbrev main_v303 : Ref sig .tc := ⟨.hbm, 405, rfl⟩
abbrev main_c_98 : Ref sig .tc := ⟨.hbm, 406, rfl⟩
abbrev main_v304 : Ref sig .tc := ⟨.hbm, 407, rfl⟩
abbrev main_v305 : Ref sig .tc := ⟨.hbm, 408, rfl⟩
abbrev main_v306 : Ref sig .tc := ⟨.hbm, 409, rfl⟩
abbrev main_v307 : Ref sig .tc := ⟨.hbm, 410, rfl⟩
abbrev main_v308 : Ref sig .tc := ⟨.hbm, 411, rfl⟩
abbrev main_c_99 : Ref sig .tc := ⟨.hbm, 412, rfl⟩
abbrev main_v309 : Ref sig .tc := ⟨.hbm, 413, rfl⟩
abbrev main_c_100 : Ref sig .tc := ⟨.hbm, 414, rfl⟩
abbrev main_v310 : Ref sig .tc := ⟨.hbm, 415, rfl⟩
abbrev main_v311 : Ref sig .tc := ⟨.hbm, 416, rfl⟩
abbrev main_v312 : Ref sig .tc := ⟨.hbm, 417, rfl⟩
abbrev main_v313 : Ref sig .tc := ⟨.hbm, 418, rfl⟩
abbrev main_v314 : Ref sig .tc := ⟨.hbm, 419, rfl⟩
abbrev main_c_101 : Ref sig .tc := ⟨.hbm, 420, rfl⟩
abbrev main_v315 : Ref sig .tc := ⟨.hbm, 421, rfl⟩
abbrev main_c_102 : Ref sig .tc := ⟨.hbm, 422, rfl⟩
abbrev main_v316 : Ref sig .tc := ⟨.hbm, 423, rfl⟩
abbrev main_v317 : Ref sig .tc := ⟨.hbm, 424, rfl⟩
abbrev main_v318 : Ref sig .tc := ⟨.hbm, 425, rfl⟩
abbrev main_v319 : Ref sig .tc := ⟨.hbm, 426, rfl⟩
abbrev main_v320 : Ref sig .tc := ⟨.hbm, 427, rfl⟩
abbrev main_c_103 : Ref sig .tc := ⟨.hbm, 428, rfl⟩
abbrev main_v321 : Ref sig .tc := ⟨.hbm, 429, rfl⟩
abbrev main_c_104 : Ref sig .tc := ⟨.hbm, 430, rfl⟩
abbrev main_v322 : Ref sig .tc := ⟨.hbm, 431, rfl⟩
abbrev main_v323 : Ref sig .tc := ⟨.hbm, 432, rfl⟩
abbrev main_v324 : Ref sig .tc := ⟨.hbm, 433, rfl⟩
abbrev main_v325 : Ref sig .tc := ⟨.hbm, 434, rfl⟩
abbrev main_v326 : Ref sig .tc := ⟨.hbm, 435, rfl⟩
abbrev main_c_105 : Ref sig .tc := ⟨.hbm, 436, rfl⟩
abbrev main_v327 : Ref sig .tc := ⟨.hbm, 437, rfl⟩
abbrev main_c_106 : Ref sig .tc := ⟨.hbm, 438, rfl⟩
abbrev main_v328 : Ref sig .tc := ⟨.hbm, 439, rfl⟩
abbrev main_v329 : Ref sig .tc := ⟨.hbm, 440, rfl⟩
abbrev main_v330 : Ref sig .tc := ⟨.hbm, 441, rfl⟩
abbrev main_v331 : Ref sig .tc := ⟨.hbm, 442, rfl⟩
abbrev main_v332 : Ref sig .tc := ⟨.hbm, 443, rfl⟩
abbrev main_c_107 : Ref sig .tc := ⟨.hbm, 444, rfl⟩
abbrev main_v333 : Ref sig .tc := ⟨.hbm, 445, rfl⟩
abbrev main_c_108 : Ref sig .tc := ⟨.hbm, 446, rfl⟩
abbrev main_v334 : Ref sig .tc := ⟨.hbm, 447, rfl⟩
abbrev main_v335 : Ref sig .tc := ⟨.hbm, 448, rfl⟩
abbrev main_v336 : Ref sig .tc := ⟨.hbm, 449, rfl⟩
abbrev main_v337 : Ref sig .tc := ⟨.hbm, 450, rfl⟩
abbrev main_v338 : Ref sig .tc := ⟨.hbm, 451, rfl⟩
abbrev main_c_109 : Ref sig .tc := ⟨.hbm, 452, rfl⟩
abbrev main_v339 : Ref sig .tc := ⟨.hbm, 453, rfl⟩
abbrev main_c_110 : Ref sig .tc := ⟨.hbm, 454, rfl⟩
abbrev main_v340 : Ref sig .tc := ⟨.hbm, 455, rfl⟩
abbrev main_v341 : Ref sig .tc := ⟨.hbm, 456, rfl⟩
abbrev main_v342 : Ref sig .tc := ⟨.hbm, 457, rfl⟩
abbrev main_v343 : Ref sig .tc := ⟨.hbm, 458, rfl⟩
abbrev main_v344 : Ref sig .tc := ⟨.hbm, 459, rfl⟩
abbrev main_v345 : Ref sig .tc := ⟨.hbm, 460, rfl⟩
abbrev main_v346 : Ref sig .tc := ⟨.hbm, 461, rfl⟩
abbrev main_v347 : Ref sig .tc := ⟨.hbm, 462, rfl⟩
abbrev main_v348 : Ref sig .tc := ⟨.hbm, 463, rfl⟩

abbrev nD : Nat := 1
abbrev τ : Topo := Topo.v7x

variable {F : FTy → Type} [FloatOps F]
-- ==== Proof.Sites.lean ====
/- What both programs compute, with no program in it: the colour filter's 6 x 6 pattern and the
   full-colour image that it gives. -/
module

public import Idealize.ShloMosaic.Lib.Pointwise

@[expose] public section

namespace Cert.Demosaic

open Idealize.ShloMosaic Idealize.ShloMosaic.Pointwise

/-- The places (row, column) of the 6 x 6 pattern at which the sensor measures green. -/
def greenSites : List (Nat × Nat) :=
  [(0, 0), (0, 2), (0, 3), (0, 5), (1, 1), (1, 4), (2, 0), (2, 2), (2, 3), (2, 5), (3, 0), (3, 2), (3, 3), (3, 5), (4, 1), (4, 4),
    (5, 0), (5, 2), (5, 3), (5, 5)]

/-- The places (row, column) of the 6 x 6 pattern at which the sensor measures red. -/
def redSites : List (Nat × Nat) := [(0, 4), (1, 0), (1, 2), (2, 4), (3, 1), (4, 3), (4, 5), (5, 1)]

/-- The places (row, column) of the 6 x 6 pattern at which the sensor measures blue. -/
def blueSites : List (Nat × Nat) := [(0, 1), (1, 3), (1, 5), (2, 1), (3, 4), (4, 0), (4, 2), (5, 4)]

/-- A place that measures neither green nor blue measures red. -/
theorem mem_redSites : ∀ p < 6, ∀ q < 6, (p, q) ∈ (greenSites ++ blueSites).reverse ↔ (p, q) ∉ redSites := by decide

/-- A place that measures neither green nor red measures blue. -/
theorem mem_blueSites : ∀ p < 6, ∀ q < 6, (p, q) ∈ (greenSites ++ redSites).reverse ↔ (p, q) ∉ blueSites := by decide

/-- The image, pixel by pixel: green is the green plane; red (and blue) is the measured plane at the
    pixels whose place in the pattern measures that colour, and the predicted plane elsewhere. -/
def image {α : Type} (green : (⟨4, ![4, 1, 1536, 1536]⟩ : Shape).Idx → α) (xtrans : (⟨4, ![4, 3, 1536, 1536]⟩ : Shape).Idx → α)
    (chroma : (⟨4, ![4, 2, 1536, 1536]⟩ : Shape).Idx → α) (b : Fin 4) (ch : Fin 3) (h w : Fin 1536) : α :=
  if ch.val = 0 then
    if (h.val % 6, w.val % 6) ∈ redSites then xtrans (ix4 b (0 : Fin 3) h w) else chroma (ix4 b (0 : Fin 2) h w)
  else if ch.val = 1 then green (ix4 b (0 : Fin 1) h w)
  else if (h.val % 6, w.val % 6) ∈ blueSites then xtrans (ix4 b (2 : Fin 3) h w) else chroma (ix4 b (1 : Fin 2) h w)

end Cert.Demosaic

end
-- ==== Proof.Mask.lean ====
/- The kernel's two masks: the 6 x 6 pattern of a colour, repeated over 192 rows and 1536 columns. -/
module

public import proofs.«01_k».proof.Proof.Sites
public import proofs.«01_k».proof.Proof.Gen.KernelIdeal

@[expose] public section

noncomputable section

namespace Cert.Demosaic

open Cert.KernelIdeal Cert.KernelIdeal.Gen Idealize.ShloMosaic Idealize.ShloMosaic.Pointwise

/-- 1 where row `r` of the pattern measures the colour in column `c % 6`, 0 elsewhere. -/
def placeWord (sites : List (Nat × Nat)) (r c : Nat) : BitVec 32 := if (r, c % 6) ∈ sites then 1#32 else 0#32

/-- The red pattern's words, row by row. -/
theorem red_pattern : ∀ p q : Fin 6, lit0 (S6x6.rowMajor (ix2 p q)) = placeWord redSites p q := by decide +kernel

/-- The blue pattern's words, row by row. -/
theorem blue_pattern : ∀ p q : Fin 6, lit1 (S6x6.rowMajor (ix2 p q)) = placeWord blueSites p q := by decide +kernel

/-- A 6 x 6 pattern repeated along both axes, at row `r` and column `w`: the pattern at `r % 6` and `w % 6`. -/
theorem repeated_at {α : Type} (x : S6x6.Idx → α) (r : Fin 192) (w : Fin 1536) :
    shapeCast S192x1536 (broadcastInDim S32x6x256x6 ![0, 1, 2, 3] bcast_S1x6x1x6_S32x6x256x6_0_1_2_3
      (shapeCast S1x6x1x6 x shapeCasts_S6x6_S1x6x1x6)) shapeCasts_S32x6x256x6_S192x1536 (ix2 r w)
      = x (ix2 (⟨r.val % 6, Nat.mod_lt _ (by decide)⟩ : Fin 6) (⟨w.val % 6, Nat.mod_lt _ (by decide)⟩ : Fin 6)) := by
  pointwise

/-- A mask made of a pattern whose words are those of the places, at row `r` and column `w`. -/
theorem mask_at {lit : Fin 36 → BitVec 32} {sites : List (Nat × Nat)} (hl : ∀ p q : Fin 6, lit (S6x6.rowMajor (ix2 p q)) = placeWord sites p q)
    (r : Fin 192) (w : Fin 1536) :
    shapeCast S192x1536 (broadcastInDim S32x6x256x6 ![0, 1, 2, 3] bcast_S1x6x1x6_S32x6x256x6_0_1_2_3
      (shapeCast S1x6x1x6 (fun i => lit (S6x6.rowMajor i)) shapeCasts_S6x6_S1x6x1x6)) shapeCasts_S32x6x256x6_S192x1536 (ix2 r w)
      = placeWord sites (r.val % 6) w.val := by
  rw [repeated_at, hl]
  unfold placeWord
  rw [Nat.mod_mod]

end Cert.Demosaic

end
-- ==== Proof.KernelValue.lean ====
/- What the kernel computes: its result array, read at a pixel, is the image. -/
module

public import proofs.«01_k».proof.Proof.Mask
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Demosaic

open Cert.KernelIdeal Cert.KernelIdeal.Gen Idealize.ShloMosaic Idealize.ShloMosaic.Pointwise Idealize.ShloMosaic.TcCoe
open Idealize.ShloMosaic.Pipeline (Dat)

variable {F : FTy → Type} [FloatOps F]

/-- A masked choice: the first array where the mask's word is not 0, the second elsewhere. -/
theorem choice (sites : List (Nat × Nat)) (r c : Nat) {α : Type} (x y : α) :
    Scalar.select (IntOp.cmpi .ne (placeWord sites r c) 0#32) x y = if (r, c % 6) ∈ sites then x else y := by
  unfold placeWord
  split <;> rfl

/-- What one grid point writes: row `r`, column `w` of channel `ch` of its block. -/
theorem block_at (x0 x1 x2 : Vec F S1x1x192x1536 .f32) (x3 : Vec F S1x2x192x1536 .f32) (x4 x5 : Vec F S192x1536 .i32)
    (ch : Fin 3) (r : Fin 192) (w : Fin 1536) :
    out0_6 x0 x1 x2 x3 x4 x5 (ix4 (0 : Fin 1) ch r w)
      = if ch.val = 0 then Scalar.select (IntOp.cmpi .ne (x4 (ix2 r w)) 0#32) (x1 (ix4 0 0 r w)) (x3 (ix4 0 0 r w))
        else if ch.val = 1 then x0 (ix4 0 0 r w)
        else Scalar.select (IntOp.cmpi .ne (x5 (ix2 r w)) 0#32) (x2 (ix4 0 0 r w)) (x3 (ix4 0 1 r w)) := by
  unfold out0_6
  canon_tiles x h
  all_goals
    have hx : x = ix4 (0 : Fin 1) (0 : Fin 1) r w := by
      rw [eq_ix4 x]
      exact congr (congr (congrArg₂ ix4 (Subsingleton.elim _ _) (Subsingleton.elim _ _)) (Fin.ext h2.symm)) (Fin.ext h3.symm)
    subst hx
    have hc : ch.val = _ := h1
    simp only [ix4_1, Fin.val_zero] at hc
    open_payloads
    pointwise
    split_ifs <;> first | rfl | omega

/-- Where grid point `t` finds each window's block: the image's blocks at batch `t / 8` and rows `192 * (t % 8)`, the masks whole. -/
theorem places : ∀ t : Fin cfg0.N, win0_0.index t = ![t.val / 8, 0, t.val % 8, 0] ∧ win0_1.index t = ![t.val / 8, 0, t.val % 8, 0]
    ∧ win0_2.index t = ![t.val / 8, 2, t.val % 8, 0] ∧ win0_3.index t = ![t.val / 8, 0, t.val % 8, 0] ∧ win0_4.index t = ![0, 0]
    ∧ win0_5.index t = ![0, 0] ∧ win0_6.index t = ![t.val / 8, 0, t.val % 8, 0] :=
  (by decide +kernel : ∀ t : Fin grid0.N, _)

variable (m : (ℓ : Loc nD τ sig) → Buf (Elt F) ℓ)

/-- The mask of red as the kernel is entered, at row `r` and column `w`. -/
theorem red_entry (c : Dev nD) (r : Fin 192) (w : Fin 1536) :
    (V m c main_v2 : Vec F S192x1536 .i32) (ix2 r w) = placeWord redSites (r.val % 6) w.val := by
  entry_read
  exact mask_at red_pattern r w

/-- The mask of blue as the kernel is entered, at row `r` and column `w`. -/
theorem blue_entry (c : Dev nD) (r : Fin 192) (w : Fin 1536) :
    (V m c main_v5 : Vec F S192x1536 .i32) (ix2 r w) = placeWord blueSites (r.val % 6) w.val := by
  entry_read
  exact mask_at blue_pattern r w

/-- The red mask's block is the whole mask at every grid point. -/
theorem red_block (c : Dev nD) (t : Fin cfg0.N) (r : Fin 192) (w : Fin 1536) :
    (iblk m c 4 t : Vec F S192x1536 .i32) (ix2 r w) = placeWord redSites (r.val % 6) w.val := by
  refine Eq.trans ?_ (red_entry m c r w)
  blk_ext [iblk, places t]

/-- The blue mask's block is the whole mask at every grid point. -/
theorem blue_block (c : Dev nD) (t : Fin cfg0.N) (r : Fin 192) (w : Fin 1536) :
    (iblk m c 5 t : Vec F S192x1536 .i32) (ix2 r w) = placeWord blueSites (r.val % 6) w.val := by
  refine Eq.trans ?_ (blue_entry m c r w)
  blk_ext [iblk, places t]

set_option maxHeartbeats 800000 in
/-- The block the body leaves at grid point `t` is the block of `image` at batch `t / 8` and rows from `192 * (t % 8)`. -/
theorem point (c : Dev nD) (t : Fin cfg0.N) (y : S1x3x192x1536.Idx) :
    out0_6 (iblk m c 0 t) (iblk m c 1 t) (iblk m c 2 t) (iblk m c 3 t) (iblk m c 4 t) (iblk m c 5 t) y
      = image (m ((c : Thread nD τ).loc main_arg0)) (m ((c : Thread nD τ).loc main_arg1)) (m ((c : Thread nD τ).loc main_arg2))
          ((win0_6.blk t).view.emb y 0) ((win0_6.blk t).view.emb y 1) ((win0_6.blk t).view.emb y 2) ((win0_6.blk t).view.emb y 3) := by
  obtain ⟨ch, r, w, rfl⟩ : ∃ (ch : Fin 3) (r : Fin 192) (w : Fin 1536), y = ix4 (0 : Fin 1) ch r w :=
    ⟨y 1, y 2, y 3, (eq_ix4 y).trans (congrArg (fun b : Fin 1 => ix4 b (y 1) (y 2) (y 3)) (Subsingleton.elim _ _))⟩
  have h1 : ((win0_6.blk t).view.emb (ix4 (0 : Fin 1) ch r w) 1).val = ch.val := by
    blk_simp [places t] <;> try omega
  have h2 : ((win0_6.blk t).view.emb (ix4 (0 : Fin 1) ch r w) 2).val % 6 = r.val % 6 := by
    blk_simp [places t] <;> try omega
  have h3 : ((win0_6.blk t).view.emb (ix4 (0 : Fin 1) ch r w) 3).val % 6 = w.val % 6 := by
    blk_simp [places t] <;> try omega
  rw [block_at, red_block, blue_block, choice, choice]
  unfold image
  rw [h1, h2, h3]
  split_ifs <;> blk_ext [iblk, V, places t]

/-- The image the kernel leaves: every block of the result is the block of `image` at its place. -/
theorem final (c : Dev nD) : (dats m 0 c).arrAt 6 cfg0.N
    = fun i => image (m ((c : Thread nD τ).loc main_arg0)) (m ((c : Thread nD τ).loc main_arg1)) (m ((c : Thread nD τ).loc main_arg2)) (i 0) (i 1) (i 2) (i 3) := by
  refine (dats m 0 c).arrAt_eq_of_covers 6 _ (by decide +kernel) fun t _ y => ?_
  blk_simp
  rw [after0_6]
  exact point m c t y

/-- The kernel runs, its result is the image of its arguments, and its arguments end unchanged. -/
theorem kernel_run (ρ : Dev nD → PrngReg) :
    θ_run defs (onTc (τ := τ) (main (F := F))) ⟨m, fun _ => 0, ρ⟩ fun r => ∀ c : Dev nD,
      r.2.mem ((c.tc : Thread nD τ).loc main_v6)
          = (fun i => image (m ((c.tc : Thread nD τ).loc main_arg0)) (m ((c.tc : Thread nD τ).loc main_arg1)) (m ((c.tc : Thread nD τ).loc main_arg2))
              (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Value.run_blocks m ρ) fun _ h c => ⟨(h c).1.trans (final m c), (h c).2⟩

end Cert.Demosaic

end
-- ==== Proof.Overwrite.lean ====
/- The reference writes the predicted plane over the measured one place by place: each write sets, in
   every 6 x 6 tile, the pixel at one place. This file reads one such write at a pixel, and a row of
   them as a choice by whether the pixel's place is among the places written. -/
module

public import proofs.«01_k».proof.Proof.Gen.ReferenceIdeal
public import Idealize.ShloMosaic.Lib.Pointwise
public import Idealize.ShloMosaic.Lib.Routing.OpsSet

@[expose] public section

namespace Cert.Demosaic

open Cert.ReferenceIdeal Cert.ReferenceIdeal.Gen Idealize.ShloMosaic Idealize.ShloMosaic.Pointwise Idealize.ShloMosaic.Routing

/-- An update of a write at the pair of words `idx` lands at the pixel whose batch, tile row and tile
    column are the update's and whose place in the tile is the pair of words. -/
theorem lands_iff (k : S4x256x256.Idx) (idx : IVec S2 32) (i : S4x256x6x256x6.Idx) :
    scatter_S4x256x6x256x6_S2_S4x256x256_012_24_24_0.resultIdx? k idx = some i
      ↔ (k 0).val = (i 0).val ∧ (k 1).val = (i 1).val ∧ (idx (ix1 0)).toInt = (i 2).val ∧ (k 2).val = (i 3).val
        ∧ (idx (ix1 1)).toInt = (i 4).val := by
  have s0 : scatter_S4x256x6x256x6_S2_S4x256x256_012_24_24_0.start k idx 0 = 0 := rfl
  have s1 : scatter_S4x256x6x256x6_S2_S4x256x256_012_24_24_0.start k idx 1 = 0 := rfl
  have s2 : scatter_S4x256x6x256x6_S2_S4x256x256_012_24_24_0.start k idx 2 = (idx (ix1 0)).toInt :=
    congrArg (fun t => (idx t).toInt) (funext fun a => by fin_cases a; rfl)
  have s3 : scatter_S4x256x6x256x6_S2_S4x256x256_012_24_24_0.start k idx 3 = 0 := rfl
  have s4 : scatter_S4x256x6x256x6_S2_S4x256x256_012_24_24_0.start k idx 4 = (idx (ix1 1)).toInt :=
    congrArg (fun t => (idx t).toInt) (funext fun a => by fin_cases a; rfl)
  have w0 : scatter_S4x256x6x256x6_S2_S4x256x256_012_24_24_0.window k 0 = (k 0).val := rfl
  have w1 : scatter_S4x256x6x256x6_S2_S4x256x256_012_24_24_0.window k 1 = (k 1).val := rfl
  have w2 : scatter_S4x256x6x256x6_S2_S4x256x256_012_24_24_0.window k 2 = 0 := rfl
  have w3 : scatter_S4x256x6x256x6_S2_S4x256x256_012_24_24_0.window k 3 = (k 2).val := rfl
  have w4 : scatter_S4x256x6x256x6_S2_S4x256x256_012_24_24_0.window k 4 = 0 := rfl
  rw [resultIdx?_eq_some]
  constructor
  · intro h
    have h0 := h 0; have h1 := h 1; have h2 := h 2; have h3 := h 3; have h4 := h 4
    rw [s0, w0] at h0; rw [s1, w1] at h1; rw [s2, w2] at h2; rw [s3, w3] at h3; rw [s4, w4] at h4
    omega
  · rintro ⟨h0, h1, h2, h3, h4⟩ a
    match a with
    | ⟨0, _⟩ => exact (congrArg₂ (fun (u : Int) (v : Nat) => u + v) s0 w0).trans (show (0 : Int) + ((k 0).val : Int) = ((i 0).val : Int) by omega)
    | ⟨1, _⟩ => exact (congrArg₂ (fun (u : Int) (v : Nat) => u + v) s1 w1).trans (show (0 : Int) + ((k 1).val : Int) = ((i 1).val : Int) by omega)
    | ⟨2, _⟩ => exact (congrArg₂ (fun (u : Int) (v : Nat) => u + v) s2 w2).trans (show (idx (ix1 0)).toInt + ((0 : Nat) : Int) = ((i 2).val : Int) by omega)
    | ⟨3, _⟩ => exact (congrArg₂ (fun (u : Int) (v : Nat) => u + v) s3 w3).trans (show (0 : Int) + ((k 2).val : Int) = ((i 3).val : Int) by omega)
    | ⟨4, _⟩ => exact (congrArg₂ (fun (u : Int) (v : Nat) => u + v) s4 w4).trans (show (idx (ix1 1)).toInt + ((0 : Nat) : Int) = ((i 4).val : Int) by omega)

/-- One write at the place `(p, q)`, read at a pixel of a tile: the update where the pixel's place is
    `(p, q)`, the array before elsewhere. -/
theorem write_at {α : Type} (x : S4x256x6x256x6.Idx → α) (idx : IVec S2 32) (upd : S4x256x256.Idx → α) (p q : Nat)
    (hp : (idx (ix1 0)).toInt = p) (hq : (idx (ix1 1)).toInt = q) (i : S4x256x6x256x6.Idx) :
    Host.scatter scatter_S4x256x6x256x6_S2_S4x256x256_012_24_24_0 (fun _ b => b) x idx upd i
      = if ((i 2).val, (i 4).val) = (p, q) then upd (ix3 (i 0) (i 1) (i 3)) else x i := by
  split
  · next h =>
    have h2 : (i 2).val = p := congrArg Prod.fst h
    have h4 : (i 4).val = q := congrArg Prod.snd h
    refine scatter_set_hit _ x idx upd i _ (fun k hk => congrArg upd ?_) (ix3 (i 0) (i 1) (i 3)) ((lands_iff _ _ _).2 ⟨rfl, rfl, ?_, rfl, ?_⟩)
    · obtain ⟨e0, e1, -, e3, -⟩ := (lands_iff _ _ _).1 hk
      rw [eq_ix3 k]
      congr 1 <;> exact Fin.ext ‹_›
    · rw [hp, h2]
    · rw [hq, h4]
  · next h =>
    refine scatter_set_miss _ x idx upd i fun k hk => h ?_
    obtain ⟨-, -, e2, -, e4⟩ := (lands_iff _ _ _).1 hk
    rw [hp] at e2; rw [hq] at e4
    exact Prod.ext (by simpa using e2.symm) (by simpa using e4.symm)

/-- The predicted plane `ch` seen by tiles: its pixel at the place `(i 2, i 4)` of the tile `(i 1, i 3)`. -/
def predicted {α : Type} (chroma : S4x2x1536x1536.Idx → α) (ch : Fin 2) (i : S4x256x6x256x6.Idx) : α :=
  chroma (ix4 (i 0) ch (⟨6 * (i 1).val + (i 2).val, by have := (i 1).isLt; have := (i 2).isLt; simp at *; omega⟩ : Fin 1536)
    (⟨6 * (i 3).val + (i 4).val, by have := (i 3).isLt; have := (i 4).isLt; simp at *; omega⟩ : Fin 1536))

/-- `y` is `x` with the places `sites` of every tile written over by the predicted plane `ch`. -/
def Overwritten {α : Type} (chroma : S4x2x1536x1536.Idx → α) (ch : Fin 2) (x : S4x256x6x256x6.Idx → α) (sites : List (Nat × Nat))
    (y : S4x256x6x256x6.Idx → α) : Prop :=
  ∀ i, y i = if ((i 2).val, (i 4).val) ∈ sites then predicted chroma ch i else x i

/-- Before any write. -/
theorem Overwritten.none {α : Type} (chroma : S4x2x1536x1536.Idx → α) (ch : Fin 2) (x : S4x256x6x256x6.Idx → α) : Overwritten chroma ch x [] x :=
  fun _ => (if_neg List.not_mem_nil).symm

/-- One more write, as the reference spells it: the words of the place joined into the index, the update
    the predicted plane's pixels at that place of each tile (a strided slice). -/
theorem Overwritten.write {α : Type} {chroma : S4x2x1536x1536.Idx → α} {ch : Fin 2} {x y : S4x256x6x256x6.Idx → α} {sites : List (Nat × Nat)}
    (h : Overwritten chroma ch x sites y) {c p q : Nat} (hc : c = ch.val) (hp : p < 6) (hq : q < 6)
    (hs : S4x2x1536x1536.SlicesBy (![0, c, p, q] : Fin 4 → Nat) ![1, 1, 6, 6] S4x1x256x256) :
    Overwritten chroma ch x ((p, q) :: sites)
      (Host.scatter scatter_S4x256x6x256x6_S2_S4x256x256_012_24_24_0 (fun _ b => b) y
        (concatenate S2 0 [⟨S1, broadcastInDim S1 ![] bcast_S_S1 (constantI S_ 32 (BitVec.ofNat 32 p))⟩,
          ⟨S1, broadcastInDim S1 ![] bcast_S_S1 (constantI S_ 32 (BitVec.ofNat 32 q))⟩] concatenates_S1_S1_S2_d0)
        (shapeCast _ (Host.slice S4x1x256x256 ![0, c, p, q] ![1, 1, 6, 6] chroma hs) shapeCasts_S4x1x256x256_S4x256x256)) := by
  intro i
  subst hc
  rw [write_at _ _ _ p q]
  · by_cases e : ((i 2).val, (i 4).val) = (p, q)
    · rw [if_pos e, if_pos (List.mem_cons.2 (.inl e))]
      have h2 : (i 2).val = p := congrArg Prod.fst e
      have h4 : (i 4).val = q := congrArg Prod.snd e
      unfold predicted
      pointwise
      congr 2 <;> exact Fin.ext (by dsimp only; omega)
    · rw [if_neg e, h i]
      simp only [List.mem_cons, e, false_or]
  · pointwise
    exact StableHlo.Predicate.toInt_ofNat_small p (by omega)
  · pointwise
    exact StableHlo.Predicate.toInt_ofNat_small q (by omega)

end Cert.Demosaic

end
-- ==== Proof.ReferenceValue.lean ====
/- What the reference computes: its result, read at a pixel, is the image. -/
module

public import proofs.«01_k».proof.Proof.Overwrite
public import proofs.«01_k».proof.Proof.Sites
public import proofs.«01_k».proof.Proof.Gen.ReferenceIdeal.Run
public import Idealize.ShloMosaic.Lib.StableHlo.RunHlo

@[expose] public section

set_option maxRecDepth 16384

namespace Cert.Demosaic

open Cert.ReferenceIdeal Cert.ReferenceIdeal.Gen Cert.ReferenceIdeal.Value Idealize.ShloMosaic Idealize.ShloMosaic.Pointwise Idealize.ShloMosaic.TcCoe

variable {F : FTy → Type} [FloatOps F]

/-- The measured plane `ch` seen by tiles. -/
def measured {α : Type} (xtrans : S4x3x1536x1536.Idx → α) (ch : Fin 3) (i : S4x256x6x256x6.Idx) : α :=
  xtrans (ix4 (i 0) ch (⟨6 * (i 1).val + (i 2).val, by have := (i 1).isLt; have := (i 2).isLt; simp at *; omega⟩ : Fin 1536)
    (⟨6 * (i 3).val + (i 4).val, by have := (i 3).isLt; have := (i 4).isLt; simp at *; omega⟩ : Fin 1536))

/-- A plane of the measurements, cut out and reshaped to tiles. -/
theorem tiles_measured {α : Type} (xtrans : S4x3x1536x1536.Idx → α) (ch : Fin 3) {c : Nat} (hc : c = ch.val)
    (hs : S4x3x1536x1536.Slices (![0, c, 0, 0] : Fin 4 → Nat) S4x1x1536x1536) :
    measured xtrans ch = shapeCast S4x256x6x256x6 (shapeCast S4x1536x1536 (extractStridedSlice S4x1x1536x1536 ![0, c, 0, 0] xtrans hs)
      shapeCasts_S4x1x1536x1536_S4x1536x1536) shapeCasts_S4x1536x1536_S4x256x6x256x6 := by
  subst hc
  funext i
  unfold measured
  pointwise
  congr 2 <;> exact Fin.ext (by dsimp only; omega)

/-- The tile view at the tile and place of a pixel. -/
def tileIdx (b : Fin 4) (h w : Fin 1536) : S4x256x6x256x6.Idx :=
  ix5 b (⟨h.val / 6, by omega⟩ : Fin 256) (⟨h.val % 6, by omega⟩ : Fin 6) (⟨w.val / 6, by omega⟩ : Fin 256) (⟨w.val % 6, by omega⟩ : Fin 6)

/-- The result: the three planes stacked, two of them read back from tiles. -/
theorem stacked_at {α : Type} (y0 y2 : S4x256x6x256x6.Idx → α) (g : S4x1x1536x1536.Idx → α) (b : Fin 4) (ch : Fin 3) (h w : Fin 1536) :
    concatenate S4x3x1536x1536 1
      [⟨S4x1x1536x1536, broadcastInDim S4x1x1536x1536 ![0, 2, 3] bcast_S4x1536x1536_S4x1x1536x1536_0_2_3 (shapeCast _ y0 shapeCasts_S4x256x6x256x6_S4x1536x1536)⟩,
        ⟨S4x1x1536x1536, broadcastInDim S4x1x1536x1536 ![0, 2, 3] bcast_S4x1536x1536_S4x1x1536x1536_0_2_3 (shapeCast _ g shapeCasts_S4x1x1536x1536_S4x1536x1536)⟩,
        ⟨S4x1x1536x1536, broadcastInDim S4x1x1536x1536 ![0, 2, 3] bcast_S4x1536x1536_S4x1x1536x1536_0_2_3 (shapeCast _ y2 shapeCasts_S4x256x6x256x6_S4x1536x1536)⟩]
      concatenates_S4x1x1536x1536_S4x1x1536x1536_S4x1x1536x1536_S4x3x1536x1536_d1 (ix4 b ch h w)
      = if ch.val = 0 then y0 (tileIdx b h w) else if ch.val = 1 then g (ix4 b (0 : Fin 1) h w) else y2 (tileIdx b h w) := by
  unfold tileIdx
  pointwise
  fin_cases ch <;> rfl

/-- Channel 0 before its last write: the measured plane 0 with every place that measures green or blue, but `(5, 4)`, written over by the
    predicted plane 0. -/
theorem red_overwritten (V0 : Valuation τ sig (Elt F)) :
    Overwritten (V0 (Proc.devRef .tc main_arg2)) 0 (measured (V0 (Proc.devRef .tc main_arg1)) 0) (greenSites ++ blueSites).reverse.tail
      (res_main_v288 V0) := by
  unfold res_main_v288 res_main_v216 res_main_v108
  iterate 27 refine Overwritten.write ?_ rfl (by decide) (by decide) _
  exact tiles_measured _ 0 rfl _ ▸ Overwritten.none _ _ _

/-- Channel 2 before its last write: the measured plane 2 with every place that measures green or red, but `(5, 1)`, written over by the
    predicted plane 1. -/
theorem blue_overwritten (V0 : Valuation τ sig (Elt F)) :
    Overwritten (V0 (Proc.devRef .tc main_arg2)) 1 (measured (V0 (Proc.devRef .tc main_arg1)) 2) (greenSites ++ redSites).reverse.tail
      (res_main_v336 V0) := by
  unfold res_main_v336 res_main_v222 res_main_v114
  iterate 27 refine Overwritten.write ?_ rfl (by decide) (by decide) _
  exact tiles_measured _ 2 rfl _ ▸ Overwritten.none _ _ _

/-- A plane written over at every place that does not measure the colour, read at a pixel: the measurement where the pixel's place
    measures it, the prediction elsewhere. -/
theorem overwritten_at {α : Type} {xtrans : S4x3x1536x1536.Idx → α} {chroma : S4x2x1536x1536.Idx → α} {cx : Fin 3} {cc : Fin 2}
    {written sites : List (Nat × Nat)} (hw : ∀ p < 6, ∀ q < 6, (p, q) ∈ written ↔ (p, q) ∉ sites) {y : S4x256x6x256x6.Idx → α}
    (hy : Overwritten chroma cc (measured xtrans cx) written y) (b : Fin 4) (h w : Fin 1536) :
    y (tileIdx b h w) = if (h.val % 6, w.val % 6) ∈ sites then xtrans (ix4 b cx h w) else chroma (ix4 b cc h w) := by
  have eh : ∀ k : Fin 1536, 6 * (k.val / 6) + k.val % 6 = k.val := fun k => Nat.div_add_mod _ _
  have e := hw (h.val % 6) (Nat.mod_lt _ (by decide)) (w.val % 6) (Nat.mod_lt _ (by decide))
  have ep : predicted chroma cc (tileIdx b h w) = chroma (ix4 b cc h w) :=
    congrArg₂ (fun u v => chroma (ix4 b cc u v)) (Fin.ext (eh h)) (Fin.ext (eh w))
  have em : measured xtrans cx (tileIdx b h w) = xtrans (ix4 b cx h w) :=
    congrArg₂ (fun u v => xtrans (ix4 b cx u v)) (Fin.ext (eh h)) (Fin.ext (eh w))
  rw [hy, ep, em]
  by_cases hm : (h.val % 6, w.val % 6) ∈ sites
  · rw [if_pos hm]; exact if_neg fun t => e.1 t hm
  · rw [if_neg hm]; exact if_pos (e.2 hm)

/-- The three planes stacked are the image, the outer two being the measured planes written over at the other colours' places. -/
theorem stacked_image {α : Type} {xtrans : S4x3x1536x1536.Idx → α} {chroma : S4x2x1536x1536.Idx → α} {y0 y2 : S4x256x6x256x6.Idx → α}
    (h0 : Overwritten chroma 0 (measured xtrans 0) (greenSites ++ blueSites).reverse y0)
    (h2 : Overwritten chroma 1 (measured xtrans 2) (greenSites ++ redSites).reverse y2) (green : S4x1x1536x1536.Idx → α)
    (b : Fin 4) (ch : Fin 3) (h w : Fin 1536) :
    concatenate S4x3x1536x1536 1
      [⟨S4x1x1536x1536, broadcastInDim S4x1x1536x1536 ![0, 2, 3] bcast_S4x1536x1536_S4x1x1536x1536_0_2_3 (shapeCast _ y0 shapeCasts_S4x256x6x256x6_S4x1536x1536)⟩,
        ⟨S4x1x1536x1536, broadcastInDim S4x1x1536x1536 ![0, 2, 3] bcast_S4x1536x1536_S4x1x1536x1536_0_2_3 (shapeCast _ green shapeCasts_S4x1x1536x1536_S4x1536x1536)⟩,
        ⟨S4x1x1536x1536, broadcastInDim S4x1x1536x1536 ![0, 2, 3] bcast_S4x1536x1536_S4x1x1536x1536_0_2_3 (shapeCast _ y2 shapeCasts_S4x256x6x256x6_S4x1536x1536)⟩]
      concatenates_S4x1x1536x1536_S4x1x1536x1536_S4x1x1536x1536_S4x3x1536x1536_d1 (ix4 b ch h w)
      = image green xtrans chroma b ch h w := by
  rw [stacked_at, overwritten_at mem_redSites h0, overwritten_at mem_blueSites h2]
  rfl

/-- The reference runs, its result is the image of its arguments, and its arguments end unchanged. -/
theorem reference_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v348)
          = (fun i => image (m ((c.tc : Thread nD τ).loc main_arg0)) (m ((c.tc : Thread nD τ).loc main_arg1)) (m ((c.tc : Thread nD τ).loc main_arg2))
              (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Value.run m ρ) fun _ h c => ⟨(h c).1.trans (funext fun i => (congrArg _ (eq_ix4 i)).trans
    (stacked_image ((red_overwritten _).write rfl (by decide) (by decide) _) ((blue_overwritten _).write rfl (by decide) (by decide) _) _
      (i 0) (i 1) (i 2) (i 3))), (h c).2⟩

end Cert.Demosaic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem Cert.Demosaic

/-- The reference runs, leaves its arguments unchanged and every semaphore at zero (it has none). -/
theorem reference_frame : Cert.quiescent_ReferenceIdeal (hReferenceIdeal := Cert.ReferenceIdeal.Gen.facts) := fun m ρ _ =>
  θ_run_mono (reference_run m ρ) fun r h => ⟨fun c => (h c).2, sem_eq_zero_of_no_sems (by decide) r.2⟩

/-- The idealized kernel and the reference end with the same image, computed from the arguments they agree on. -/
theorem same_image : Cert.algebraic_KernelIdeal_ReferenceIdeal (hKernelIdeal := Cert.KernelIdeal.Gen.facts)
    (hReferenceIdeal := Cert.ReferenceIdeal.Gen.facts) := fun m ρ m' ρ' _ hagree =>
  ⟨_, kernel_run m ρ, θ_run_mono (reference_run m' ρ') fun _ h c =>
    ⟨(h c).1.trans (by rw [(hagree c).1, (hagree c).2.1, (hagree c).2.2]; rfl), (h c).2⟩⟩

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_image⟩

end Cert.Proof

end
